-- ==== Defs.lean ====
def Pre_Kernel [hPre_cam_names_cameras : Cert.Pre_cam_names_cameras.Facts] (m : (ℓ : Loc Cert.Kernel.nD Cert.Kernel.τ Cert.Kernel.sig) → Buf (Elt Bits) ℓ) : Prop :=
  ∀ c : Dev Cert.Kernel.nD,
    (Cert.Pre_cam_names_cameras.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_cam_names_cameras : Cert.Pre_cam_names_cameras.Facts] (m : (ℓ : Loc Cert.KernelIdeal.nD Cert.KernelIdeal.τ Cert.KernelIdeal.sig) → Buf (Elt Ideal) ℓ) : Prop :=
  ∀ c : Dev Cert.KernelIdeal.nD,
    (Cert.Pre_cam_names_cameras.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_cam_names_cameras [hPre_cam_names_cameras : Cert.Pre_cam_names_cameras.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_cam_names_cameras.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_cam_names_cameras : Cert.Pre_cam_names_cameras.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_cam_names_cameras : Cert.Pre_cam_names_cameras.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_cam_names_cameras [hReferenceIdeal : Cert.ReferenceIdeal.Facts] [hPre_cam_names_cameras : Cert.Pre_cam_names_cameras.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_cam_names_cameras m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_cam_names_cameras : Cert.Pre_cam_names_cameras.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_cam_names_cameras : Cert.Pre_cam_names_cameras.Facts),
    quiescent_Kernel (hKernel := hKernel) (hPre_cam_names_cameras := hPre_cam_names_cameras)
    ∧ quiescent_KernelIdeal (hKernelIdeal := hKernelIdeal) (hPre_cam_names_cameras := hPre_cam_names_cameras)
    ∧ quiescent_ReferenceIdeal (hReferenceIdeal := hReferenceIdeal)
    ∧ quiescent_ReferenceIdeal_pre_cam_names_cameras (hReferenceIdeal := hReferenceIdeal) (hPre_cam_names_cameras := hPre_cam_names_cameras)
    ∧ preserves_Kernel_KernelIdeal
    ∧ algebraic_KernelIdeal_ReferenceIdeal (hKernelIdeal := hKernelIdeal) (hReferenceIdeal := hReferenceIdeal) (hPre_cam_names_cameras := hPre_cam_names_cameras)
-- ==== Pre_cam_names_cameras.lean ====
abbrev S32x3x512x512 : Shape := ⟨4, ![32, 3, 512, 512]⟩
abbrev S32 : Shape := ⟨1, ![32]⟩
abbrev S99x3x1x1 : Shape := ⟨4, ![99, 3, 1, 1]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S32x3x512x512 .f32) (main_arg1 : IVec S32 32) (main_arg2 : FVec F S99x3x1x1 .f32) (main_arg3 : FVec F S99x3x1x1 .f32) : IVec S32 1 :=
  let main_c : IVec S_ 32 := constantI S_ 32 0#32
  let main_v0 : IVec S32 32 := broadcastInDim S32 ![] bcast_S_S32 main_c
  let main_v1 : IVec S32 1 := cmpi .sge main_arg1 main_v0
  let main_c_0 : IVec S_ 32 := constantI S_ 32 100#32
  let main_v2 : IVec S32 32 := broadcastInDim S32 ![] bcast_S_S32 main_c_0
  let main_v3 : IVec S32 1 := cmpi .slt main_arg1 main_v2
  let main_v4 : IVec S32 1 := andi main_v1 main_v3
  main_v4
-- ==== Kernel.lean ====
abbrev S32x3x512x512 : Shape := ⟨4, ![32, 3, 512, 512]⟩
abbrev S32 : Shape := ⟨1, ![32]⟩
abbrev S99x3x1x1 : Shape := ⟨4, ![99, 3, 1, 1]⟩
abbrev S_ : Shape := ⟨0, ![]⟩
abbrev S1x3 : Shape := ⟨2, ![1, 3]⟩
abbrev S99x3 : Shape := ⟨2, ![99, 3]⟩
abbrev S100x3 : Shape := ⟨2, ![100, 3]⟩
abbrev S2x3x512x512 : Shape := ⟨4, ![2, 3, 512, 512]⟩
abbrev S1 : Shape := ⟨1, ![1]⟩
abbrev S1x1 : Shape := ⟨2, ![1, 1]⟩
abbrev S1x1x512x512 : Shape := ⟨4, ![1, 1, 512, 512]⟩
abbrev S512x512 : Shape := ⟨2, ![512, 512]⟩

abbrev nBuf : Space → Nat
  | .hbm => 13
  | .vmem => 4
  | .smem => 3
  | _ => 0

abbrev bufTy : (tb : Table) → Fin (tcTables nBuf tb) → BufTy
  | .hbm, ⟨0, _⟩ => ⟨S32x3x512x512, .f32⟩
  | .hbm, ⟨1, _⟩ => ⟨S32, .i32⟩
  | .hbm, ⟨2, _⟩ => ⟨S99x3x1x1, .f32⟩
  | .hbm, ⟨3, _⟩ => ⟨S99x3x1x1, .f32⟩
  | .hbm, ⟨4, _⟩ => ⟨S_, .f32⟩
  | .hbm, ⟨5, _⟩ => ⟨S1x3, .f32⟩
  | .hbm, ⟨6, _⟩ => ⟨S99x3, .f32⟩
  | .hbm, ⟨7, _⟩ => ⟨S100x3, .f32⟩
  | .hbm, ⟨8, _⟩ => ⟨S_, .f32⟩
  | .hbm, ⟨9, _⟩ => ⟨S1x3, .f32⟩
  | .hbm, ⟨10, _⟩ => ⟨S99x3, .f32⟩
  | .hbm, ⟨11, _⟩ => ⟨S100x3, .f32⟩
  | .hbm, ⟨12, _⟩ => ⟨S32x3x512x512, .f32⟩
  | .local _ .vmem, ⟨0, _⟩ => ⟨S2x3x512x512, .f32⟩
  | .local _ .vmem, ⟨1, _⟩ => ⟨S2x3x512x512, .f32⟩
  | .local _ .vmem, ⟨2, _⟩ => ⟨S2x3x512x512, .f32⟩
  | .local _ .vmem, ⟨3, _⟩ => ⟨S2x3x512x512, .f32⟩
  | .local _ .smem, ⟨0, _⟩ => ⟨S32, .i32⟩
  | .local _ .smem, ⟨1, _⟩ => ⟨S100x3, .f32⟩
  | .local _ .smem, ⟨2, _⟩ => ⟨S100x3, .f32⟩
  | _, _ => ⟨S32x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def k0_off1 (i : grid0.Coords) : Fin 1 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let v2 : Index := Scalar.indexCast v1
  ![v2.toNat]
def k0_off2 (v3 : BitVec 32) : Fin 2 → Nat :=
  let v4 : Index := Scalar.indexCast v3
  let c0 : Index := 0#32
  ![v4.toNat, 0]

def k0_off3 (v3 : BitVec 32) : Fin 2 → Nat :=
  let v17 : Index := Scalar.indexCast v3
  let c1 : Index := 1#32
  ![v17.toNat, 1]
def k0_off4 (v3 : BitVec 32) : Fin 2 → Nat :=
  let v30 : Index := Scalar.indexCast v3
  let c2 : Index := 2#32
  ![v30.toNat, 2]

def k0_chk1 (v3 : BitVec 32) : Prop :=
  (∀ a, (k0_off2 v3) a + S1x1.size a ≤ S100x3.size a) ∧
  (∀ a, (k0_off3 v3) a + S1x1.size a ≤ S100x3.size a) ∧
  (∀ a, (k0_off4 v3) a + S1x1.size a ≤ S100x3.size a)
theorem k0_off2_inb : ∀ (v3 : BitVec 32) (k0_hw1 : k0_chk1 v3), ∀ a, (k0_off2 v3) a + S1x1.size a ≤ S100x3.size a := fun v3 k0_hw1 => k0_hw1.1
theorem k0_off3_inb : ∀ (v3 : BitVec 32) (k0_hw1 : k0_chk1 v3), ∀ a, (k0_off3 v3) a + S1x1.size a ≤ S100x3.size a := fun v3 k0_hw1 => k0_hw1.2.1
theorem k0_off4_inb : ∀ (v3 : BitVec 32) (k0_hw1 : k0_chk1 v3), ∀ a, (k0_off4 v3) a + S1x1.size a ≤ S100x3.size a := fun v3 k0_hw1 => k0_hw1.2.2

def k0_off5 (i : grid0.Coords) : Fin 1 → Nat :=
  let arg0 : BitVec 32 := BitVec.ofNat 32 (i 0).val
  let c2_i32_27 : BitVec 32 := 2#32
  let v43 : BitVec 32 := Scalar.muli arg0 c2_i32_27
  let c1_i32 : BitVec 32 := 1#32
  let v44 : BitVec 32 := Scalar.addi v43 c1_i32
  let v45 : Index := Scalar.indexCast v44
  ![v45.toNat]
def k0_off6 (v46 : BitVec 32) : Fin 2 → Nat :=
  let v47 : Index := Scalar.indexCast v46
  let c0_28 : Index := 0#32
  ![v47.toNat, 0]

def k0_off7 (v46 : BitVec 32) : Fin 2 → Nat :=
  let v60 : Index := Scalar.indexCast v46
  let c1_38 : Index := 1#32
  ![v60.toNat, 1]
def k0_off8 (v46 : BitVec 32) : Fin 2 → Nat :=
  let v73 : Index := Scalar.indexCast v46
  let c2_48 : Index := 2#32
  ![v73.toNat, 2]

def k0_chk2 (v46 : BitVec 32) : Prop :=
  (∀ a, (k0_off6 v46) a + S1x1.size a ≤ S100x3.size a) ∧
  (∀ a, (k0_off7 v46) a + S1x1.size a ≤ S100x3.size a) ∧
  (∀ a, (k0_off8 v46) a + S1x1.size a ≤ S100x3.size a)
theorem k0_off6_inb : ∀ (v46 : BitVec 32) (k0_hw2 : k0_chk2 v46), ∀ a, (k0_off6 v46) a + S1x1.size a ≤ S100x3.size a := fun v46 k0_hw2 => k0_hw2.1
theorem k0_off7_inb : ∀ (v46 : BitVec 32) (k0_hw2 : k0_chk2 v46), ∀ a, (k0_off7 v46) a + S1x1.size a ≤ S100x3.size a := fun v46 k0_hw2 => k0_hw2.2.1
theorem k0_off8_inb : ∀ (v46 : BitVec 32) (k0_hw2 : k0_chk2 v46), ∀ a, (k0_off8 v46) a + S1x1.size a ≤ S100x3.size a := fun v46 k0_hw2 => k0_hw2.2.2

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .smem S32 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S100x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S100x3 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2x3x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x3x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S32x3x512x512 : Shape := ⟨4, ![32, 3, 512, 512]⟩
abbrev S32 : Shape := ⟨1, ![32]⟩
abbrev S99x3x1x1 : Shape := ⟨4, ![99, 3, 1, 1]⟩
abbrev S_ : Shape := ⟨0, ![]⟩
abbrev S1x3x1x1 : Shape := ⟨4, ![1, 3, 1, 1]⟩
abbrev S100x3x1x1 : Shape := ⟨4, ![100, 3, 1, 1]⟩
abbrev S32x1 : Shape := ⟨2, ![32, 1]⟩
abbrev S1 : Shape := ⟨1, ![1]⟩
abbrev S1x1 : Shape := ⟨2, ![1, 1]⟩
abbrev S32x3x1x1 : Shape := ⟨4, ![32, 3, 1, 1]⟩

abbrev nBuf : Space → Nat
  | .hbm => 60
  | .vmem => 0
  | .smem => 0
  | _ => 0

abbrev bufTy : (tb : Table) → Fin (tcTables nBuf tb) → BufTy
  | .hbm, ⟨0, _⟩ => ⟨S32x3x512x512, .f32⟩
  | .hbm, ⟨1, _⟩ => ⟨S32, .i32⟩
  | .hbm, ⟨2, _⟩ => ⟨S99x3x1x1, .f32⟩
  | .hbm, ⟨3, _⟩ => ⟨S99x3x1x1, .f32⟩
  | .hbm, ⟨4, _⟩ => ⟨S_, .f32⟩
  | .hbm, ⟨5, _⟩ => ⟨S1x3x1x1, .f32⟩
  | .hbm, ⟨6, _⟩ => ⟨S_, .f32⟩
  | .hbm, ⟨7, _⟩ => ⟨S1x3x1x1, .f32⟩
  | .hbm, ⟨8, _⟩ => ⟨S100x3x1x1, .f32⟩
  | .hbm, ⟨9, _⟩ => ⟨S100x3x1x1, .f32⟩
  | .hbm, ⟨10, _⟩ => ⟨S_, .i32⟩
  | .hbm, ⟨11, _⟩ => ⟨S32, .i32⟩
  | .hbm, ⟨12, _⟩ => ⟨S32, .i1⟩
  | .hbm, ⟨13, _⟩ => ⟨S_, .i32⟩
  | .hbm, ⟨14, _⟩ => ⟨S32, .i32⟩
  | .hbm, ⟨15, _⟩ => ⟨S32, .i32⟩
  | .hbm, ⟨16, _⟩ => ⟨S32, .i32⟩
  | .hbm, ⟨17, _⟩ => ⟨S32x1, .i32⟩
  | .hbm, ⟨18, _⟩ => ⟨S1, .i32⟩
  | .hbm, ⟨19, _⟩ => ⟨S_, .i32⟩
  | .hbm, ⟨20, _⟩ => ⟨S32x1, .i32⟩
  | .hbm, ⟨21, _⟩ => ⟨S32x1, .i1⟩
  | .hbm, ⟨22, _⟩ => ⟨S1x1, .i32⟩
  | .hbm, ⟨23, _⟩ => ⟨S32x1, .i32⟩
  | .hbm, ⟨24, _⟩ => ⟨S32x1, .i1⟩
  | .hbm, ⟨25, _⟩ => ⟨S32x1, .i1⟩
  | .hbm, ⟨26, _⟩ => ⟨S_, .i1⟩
  | .hbm, ⟨27, _⟩ => ⟨S32, .i1⟩
  | .hbm, ⟨28, _⟩ => ⟨S32x3x1x1, .f32⟩
  | .hbm, ⟨29, _⟩ => ⟨S32x3x1x1, .i1⟩
  | .hbm, ⟨30, _⟩ => ⟨S_, .f32⟩
  | .hbm, ⟨31, _⟩ => ⟨S32x3x1x1, .f32⟩
  | .hbm, ⟨32, _⟩ => ⟨S32x3x1x1, .f32⟩
  | .hbm, ⟨33, _⟩ => ⟨S_, .i32⟩
  | .hbm, ⟨34, _⟩ => ⟨S32, .i32⟩
  | .hbm, ⟨35, _⟩ => ⟨S32, .i1⟩
  | .hbm, ⟨36, _⟩ => ⟨S_, .i32⟩
  | .hbm, ⟨37, _⟩ => ⟨S32, .i32⟩
  | .hbm, ⟨38, _⟩ => ⟨S32, .i32⟩
  | .hbm, ⟨39, _⟩ => ⟨S32, .i32⟩
  | .hbm, ⟨40, _⟩ => ⟨S32x1, .i32⟩
  | .hbm, ⟨41, _⟩ => ⟨S1, .i32⟩
  | .hbm, ⟨42, _⟩ => ⟨S_, .i32⟩
  | .hbm, ⟨43, _⟩ => ⟨S32x1, .i32⟩
  | .hbm, ⟨44, _⟩ => ⟨S32x1, .i1⟩
  | .hbm, ⟨45, _⟩ => ⟨S1x1, .i32⟩
  | .hbm, ⟨46, _⟩ => ⟨S32x1, .i32⟩
  | .hbm, ⟨47, _⟩ => ⟨S32x1, .i1⟩
  | .hbm, ⟨48, _⟩ => ⟨S32x1, .i1⟩
  | .hbm, ⟨49, _⟩ => ⟨S_, .i1⟩
  | .hbm, ⟨50, _⟩ => ⟨S32, .i1⟩
  | .hbm, ⟨51, _⟩ => ⟨S32x3x1x1, .f32⟩
  | .hbm, ⟨52, _⟩ => ⟨S32x3x1x1, .i1⟩
  | .hbm, ⟨53, _⟩ => ⟨S_, .f32⟩
  | .hbm, ⟨54, _⟩ => ⟨S32x3x1x1, .f32⟩
  | .hbm, ⟨55, _⟩ => ⟨S32x3x1x1, .f32⟩
  | .hbm, ⟨56, _⟩ => ⟨S32x3x512x512, .f32⟩
  | .hbm, ⟨57, _⟩ => ⟨S32x3x512x512, .f32⟩
  | .hbm, ⟨58, _⟩ => ⟨S32x3x512x512, .f32⟩
  | .hbm, ⟨59, _⟩ => ⟨S32x3x512x512, .f32⟩
  | _, _ => ⟨S32x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v4 : Ref sig .tc := ⟨.hbm, 32, rfl⟩
abbrev main_call1_c : Ref sig .tc := ⟨.hbm, 33, rfl⟩
abbrev main_call1_v0 : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_c_1 : Ref sig .tc := ⟨.hbm, 41, rfl⟩
abbrev main_call1_c_2 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_3 : Ref sig .tc := ⟨.hbm, 49, rfl⟩
abbrev main_call1_v12 : Ref sig .tc := ⟨.hbm, 50, rfl⟩
abbrev main_call1_v13 : Ref sig .tc := ⟨.hbm, 51, rfl⟩
abbrev main_call1_v14 : Ref sig .tc := ⟨.hbm, 52, rfl⟩
abbrev main_call1_cst : Ref sig .tc := ⟨.hbm, 53, rfl⟩
abbrev main_call1_v15 : Ref sig .tc := ⟨.hbm, 54, rfl⟩
abbrev main_v5 : Ref sig .tc := ⟨.hbm, 55, rfl⟩
abbrev main_v6 : Ref sig .tc := ⟨.hbm, 56, rfl⟩
abbrev main_v7 : Ref sig .tc := ⟨.hbm, 57, rfl⟩
abbrev main_v8 : Ref sig .tc := ⟨.hbm, 58, rfl⟩
abbrev main_v9 : Ref sig .tc := ⟨.hbm, 59, rfl⟩

abbrev nD : Nat := 1
abbrev τ : Topo := Topo.v7x

variable {F : FTy → Type} [FloatOps F]
-- ==== Proof.IdealBody.lean ====
module

public import proofs.«01_k».proof.Proof.Gen.KernelIdeal.Frame
public import proofs.«01_k».proof.Proof.Gen.KernelIdeal.Skeleton
public import Idealize.ShloMosaic.Lib.Pipeline.Value
public import Idealize.ShloMosaic.Lib.ValueIdx

@[expose] public section

set_option maxRecDepth 16384

noncomputable section

namespace Cert.KernelIdeal.Hand

open Cert.KernelIdeal Cert.KernelIdeal.Gen
open Cert.KernelIdeal.Facts₀ Cert.KernelIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

/-- A word below 100 satisfies the side condition the first half assumes. -/
theorem chk1_of_lt {v : BitVec 32} (h : v.toNat < 100) : k0_chk1 v := by
  refine ⟨?_, ?_, ?_⟩ <;> intro a <;> fin_cases a <;>
    simp [k0_off2, k0_off3, k0_off4, Scalar.indexCast] <;> omega

/-- A word below 100 satisfies the side condition the second half assumes. -/
theorem chk2_of_lt {v : BitVec 32} (h : v.toNat < 100) : k0_chk2 v := by
  refine ⟨?_, ?_, ?_⟩ <;> intro a <;> fin_cases a <;>
    simp [k0_off6, k0_off7, k0_off8, Scalar.indexCast] <;> omega

/-- The table row a camera word names (the word itself, when it is below 100). -/
def row (w : BitVec 32) : Fin 100 := ⟨w.toNat % 100, Nat.mod_lt _ (by decide)⟩

/-- The image of the whole batch that position `p` of grid point `i`'s block of two holds. -/
def img (i : grid0.Coords) (p : Fin 2) : Fin 32 := ⟨2 * (i 0).val + p.val, by have h : (i 0).val < 16 := (i 0).isLt; omega⟩

/-- The output block of grid point `i`: the texture block times the weight of its image's camera, plus that
    camera's bias, channel by channel. -/
def outBlk (i : grid0.Coords) (x0 : Vec F S32 .i32) (x1 x2 : Vec F S100x3 .f32) (x3 : Vec F S2x3x512x512 .f32) :
    Vec F S2x3x512x512 .f32 := fun y =>
  FloatOps.addf (FloatOps.mulf (x3 y) (x1 (ix2 (row (x0 (ix1 (img i (y 0))))) (y 1))))
    (x2 (ix2 (row (x0 (ix1 (img i (y 0))))) (y 1)))

/-- The first camera word of point `i` is read at position `2 * i`. -/
theorem off1_eq (i : grid0.Coords) : k0_off1 i = ![(img i 0).val] := by
  have h : (i 0).val < 16 := (i 0).isLt
  funext a
  fin_cases a
  show (Scalar.indexCast (Scalar.addi (Scalar.muli (BitVec.ofNat 32 (i 0).val) 2#32) 0#32)).toNat = 2 * (i 0).val + 0
  simp [Scalar.indexCast, Scalar.addi, Scalar.muli, IntOp.addi, IntOp.muli, BitVec.toNat_add, BitVec.toNat_mul]
  omega

/-- The second camera word of point `i` is read at position `2 * i + 1`. -/
theorem off5_eq (i : grid0.Coords) : k0_off5 i = ![(img i 1).val] := by
  have h : (i 0).val < 16 := (i 0).isLt
  funext a
  fin_cases a
  show (Scalar.indexCast (Scalar.addi (Scalar.muli (BitVec.ofNat 32 (i 0).val) 2#32) 1#32)).toNat = 2 * (i 0).val + 1
  simp [Scalar.indexCast, Scalar.addi, Scalar.muli, IntOp.addi, IntOp.muli, BitVec.toNat_add, BitVec.toNat_mul]
  omega

/-- A one-element read of the camera list at offset `n` is its word at `n`. -/
theorem cam_read (a1 : Memref sig .tc .smem S32 .i32) (f0 : a1.view.ty.Contents (Elt F)) (o : Fin 1 → ℕ)
    (ho : ∀ a, o a + S1.size a ≤ S32.size a) (n : Fin 32) (hn : o = ![n.val]) (z : S1.Idx) :
    a1.view.readAt (Elt F) (Rect.unit (s := S32) o S1.size ho).toLoadRect f0 z = a1.view.read (Elt F) f0 (ix1 n) := by
  subst hn
  refine congrArg (a1.view.read (Elt F) f0) (funext fun a => Fin.ext ?_)
  match a with
  | ⟨0, _⟩ =>
    have hz : (z 0).val < 1 := (z 0).isLt
    show n.val + 1 * (z 0).val = n.val
    omega

/-- A one-element read of a table at row `w`, channel `ch`, is the table's entry at the row `w` names. -/
theorem tab_read (a2 : Memref sig .tc .smem S100x3 .f32) (f1 : a2.view.ty.Contents (Elt F)) (q : Fin 2 → ℕ)
    (hq : ∀ a, q a + S1x1.size a ≤ S100x3.size a) (w : BitVec 32) (ch : Fin 3) (hqe : q = ![w.toNat, ch.val]) (z : S1x1.Idx) :
    a2.view.readAt (Elt F) (Rect.unit (s := S100x3) q S1x1.size hq).toLoadRect f1 z = a2.view.read (Elt F) f1 (ix2 (row w) ch) := by
  subst hqe
  refine congrArg (a2.view.read (Elt F) f1) (funext fun a => Fin.ext ?_)
  match a with
  | ⟨0, _⟩ =>
    have hz : (z 0).val < 1 := (z 0).isLt
    have hw : w.toNat + 1 ≤ 100 := hq 0
    show w.toNat + 1 * (z 0).val = w.toNat % 100
    omega
  | ⟨1, _⟩ =>
    have hz : (z 1).val < 1 := (z 1).isLt
    show ch.val + 1 * (z 1).val = ch.val
    omega

/-- What one store writes, at an index: the texture element times the weight, plus the bias. -/
theorem pay_apply (w b : Elt F .f32) (x : Vec F S1x1x512x512 .f32) (y : S1x1x512x512.Idx) :
    k0_pay3 w b x y = FloatOps.addf (FloatOps.mulf (x y) w) b := by
  unfold k0_pay3
  show FloatOps.addf (FloatOps.mulf (shapeCast S1x1x512x512 (shapeCast S512x512 x _) _ y) w) b = _
  rw [shapeCast_shapeCast]

/-- One store of the body: over the words of image `p` and channel `ch`, it writes the output block's values on
    that image's channel. -/
theorem piece (i : grid0.Coords) (a1 : Memref sig .tc .smem S32 .i32) (a2 a3 : Memref sig .tc .smem S100x3 .f32)
    (a4 : Memref sig .tc .vmem S2x3x512x512 .f32) (f0 : a1.view.ty.Contents (Elt F)) (f1 : a2.view.ty.Contents (Elt F))
    (f2 : a3.view.ty.Contents (Elt F)) (f3 : a4.view.ty.Contents (Elt F)) (p : Fin 2) (ch : Fin 3) (o : Fin 1 → ℕ)
    (ho : ∀ a, o a + S1.size a ≤ S32.size a) (hoe : o = ![(img i p).val]) (z0 : S1.Idx) (q : Fin 2 → ℕ)
    (hq : ∀ a, q a + S1x1.size a ≤ S100x3.size a)
    (hqe : q = ![BitVec.toNat (w := 32) (a1.view.readAt (Elt F) (Rect.unit (s := S32) o S1.size ho).toLoadRect f0 z0), ch.val])
    (z1 z2 : S1x1.Idx) (r : Fin 4 → ℕ) (hr : ∀ a, r a + S1x1x512x512.size a ≤ S2x3x512x512.size a) (hre : r = ![p.val, ch.val, 0, 0])
    (x : S1x1x512x512.Idx) :
    k0_pay3 (a2.view.readAt (Elt F) (Rect.unit (s := S100x3) q S1x1.size hq).toLoadRect f1 z1)
        (a3.view.readAt (Elt F) (Rect.unit (s := S100x3) q S1x1.size hq).toLoadRect f2 z2)
        (a4.view.readAt (Elt F) (Rect.unit (s := S2x3x512x512) r S1x1x512x512.size hr).toLoadRect f3) x
      = outBlk i (a1.view.read (Elt F) f0) (a2.view.read (Elt F) f1) (a3.view.read (Elt F) f2) (a4.view.read (Elt F) f3)
          ((Rect.unit (s := S2x3x512x512) r S1x1x512x512.size hr).emb x) := by
  have e0 : (Rect.unit (s := S2x3x512x512) r S1x1x512x512.size hr).emb x 0 = p := Fin.ext (by
    have hz : (x 0).val < 1 := (x 0).isLt
    subst hre; show p.val + 1 * (x 0).val = p.val; omega)
  have e1 : (Rect.unit (s := S2x3x512x512) r S1x1x512x512.size hr).emb x 1 = ch := Fin.ext (by
    have hz : (x 1).val < 1 := (x 1).isLt
    subst hre; show ch.val + 1 * (x 1).val = ch.val; omega)
  rw [pay_apply, tab_read a2 f1 q hq _ ch hqe, tab_read a3 f2 q hq _ ch hqe, cam_read a1 f0 o ho _ hoe]
  unfold outBlk
  rw [e0, e1]
  rfl

set_option maxHeartbeats 1000000 in
/-- The body at point `i`, run over its five windows: it leaves the four inputs as they are and the output block
    at `outBlk`, when every camera word is below 100. -/
theorem sound_kernel (c : Dev nD) (E : Set ℕ) (i : grid0.Coords)
    (arg1 : Memref sig .tc .smem S32 .i32) (harg1 : arg1.IsWhole) (arg2 : Memref sig .tc .smem S100x3 .f32) (harg2 : arg2.IsWhole)
    (arg3 : Memref sig .tc .smem S100x3 .f32) (harg3 : arg3.IsWhole) (arg4 : Memref sig .tc .vmem S2x3x512x512 .f32) (harg4 : arg4.IsWhole)
    (arg5 : Memref sig .tc .vmem S2x3x512x512 .f32) (harg5 : arg5.IsWhole)
    (x0 : Vec F S32 .i32) (x1 : Vec F S100x3 .f32) (x2 : Vec F S100x3 .f32) (x3 : Vec F S2x3x512x512 .f32)
    (hx : ∀ y, BitVec.toNat (w := 32) (x0 y) < 100) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare (outBlk i x0 x1 x2 x3)) -∗ K ⟨⟩))
      ⊢ wp frame (wpE (defs₀ (F := F)) Variants.none c none) E (cc0__cc_kernel i arg1 harg1 arg2 harg2 arg3 harg3 arg4 harg4 arg5 harg5) K := by
  simp only [cc0__cc_kernel_eq_skeleton]; unfold cc0__cc_kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec (disch := first | exact chk1_of_lt (hx _) | exact chk2_of_lt (hx _))
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  iexists _; isplitr; swap
  · iexact H4
  ipureintro
  refine (View.read_writes_eq_canon _ _ _ ?_).trans (funext fun y => View.canon_apply_of_pieces (outBlk i _ _ _ _) _ ?_ y ?_)
  · exact View.cover_of_tiled _ S1x1x512x512.size (by rfl)
  case refine_3 => revert y; exact View.cover_of_tiled _ S1x1x512x512.size (by rfl)
  intro P hP
  simp only [List.mem_cons, List.not_mem_nil, _root_.or_false] at hP
  rcases hP with rfl | rfl | rfl | rfl | rfl | rfl
  · exact piece i arg1 arg2 arg3 arg4 f0 f1 f2 f3 1 2 (k0_off5 i) _ (off5_eq i) _ (k0_off8 _) _ rfl _ _ _ _ rfl
  · exact piece i arg1 arg2 arg3 arg4 f0 f1 f2 f3 1 1 (k0_off5 i) _ (off5_eq i) _ (k0_off7 _) _ rfl _ _ _ _ rfl
  · exact piece i arg1 arg2 arg3 arg4 f0 f1 f2 f3 1 0 (k0_off5 i) _ (off5_eq i) _ (k0_off6 _) _ rfl _ _ _ _ rfl
  · exact piece i arg1 arg2 arg3 arg4 f0 f1 f2 f3 0 2 (k0_off1 i) _ (off1_eq i) _ (k0_off4 _) _ rfl _ _ _ _ rfl
  · exact piece i arg1 arg2 arg3 arg4 f0 f1 f2 f3 0 1 (k0_off1 i) _ (off1_eq i) _ (k0_off3 _) _ rfl _ _ _ _ rfl
  · exact piece i arg1 arg2 arg3 arg4 f0 f1 f2 f3 0 0 (k0_off1 i) _ (off1_eq i) _ (k0_off2 _) _ rfl _ _ _ _ rfl

end Cert.KernelIdeal.Hand

end
-- ==== Proof.IdealFrame.lean ====
module

public import proofs.«01_k».proof.Proof.IdealBody
public import Idealize.ShloMosaic.Lib.Claim

@[expose] public section

set_option maxRecDepth 16384

noncomputable section

namespace Cert.KernelIdeal.Hand

open Cert.KernelIdeal Cert.KernelIdeal.Gen
open Cert.KernelIdeal.Facts₀ Cert.KernelIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the run needs of the launch memory: every camera word is below 100, on every device. -/
def CamsOk : Prop := ∀ (c : Dev nD) (y : S32.Idx), BitVec.toNat (w := 32) (m ((c : Thread nD τ).loc main_arg1) y) < 100

/-- The camera window's block is the whole camera list, so its words are below 100 too. -/
theorem iblk_cam_lt (h : CamsOk m) (c : Dev nD) (t : Fin cfg0.N) (y : S32.Idx) :
    BitVec.toNat (w := 32) (iblk m c 0 t y) < 100 := by
  have e : V m c main_arg1 = m ((c : Thread nD τ).loc main_arg1) := V_main_arg1 m c
  show BitVec.toNat (w := 32) (V m c main_arg1 _) < 100
  rw [e]
  exact h c _

/-- What the program's one region holds: each array as the region finds it, each input block left in place, the
    output block at `outBlk` of the input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlk (grid0.coords t) (iblk m c 0 t) (iblk m c 1 t) (iblk m c 2 t) (iblk m c 3 t)
  Φ _ := Pipeline.ΦA spec0 c
  q _ := fullShare
  owed _ := 0

/-- Each array is the region-entry contents. -/
theorem A_eq (c : Dev nD) (w : Fin cfg0.W) : (dats m 0 c).A w = V m c (Pipeline.arrRef spec0 w) := by dsimp only [dats]

/-- The body leaves each input block in place, and the output block at `outBlk`. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t
    = outBlk (grid0.coords t) (iblk m c 0 t) (iblk m c 1 t) (iblk m c 2 t) (iblk m c 3 t) := by dsimp only [dats]

/-- The body finds each input block in its staging buffer. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- What the body is given at point `t`. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d)))

/-- What the body gives back at point `t`. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t))

/-- The body's triple at point `t`, when every camera word is below 100. -/
theorem sound_body (h : CamsOk m) (c : Dev nD) (t : Fin cfg0.N) :
    bodyPre m c t ⊢ wp frame (wpE (defs₀ (F := F)) Variants.none c none) Set.univ (bodyAt0 t) fun _ => bodyPost m c t := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t)
    (iblk_cam_lt m h c t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The region's body at point `t` is the kernel function on that point's staging buffers. -/
theorem defs₀_row (t : Fin cfg0.N) : defs₀ (F := F) .tc cfg0.body (cfg0.bodyArgs t (cfg0.slots t)) = bodyAt0 t := by
  unfold defs₀; rw [Defs.onTc_tc]

/-- The body meets what the pipeline asks of it at every point. -/
theorem body_obligation (h : CamsOk m) (c : Dev nD) :
    BodyObligation (dats (F := F) m 0 c) (defs₀ (F := F)) Variants.none () Set.univ := fun t => by
  rw [bigSep_W0, bigSep_W0, defs₀_row]
  exact triple_restated (sound_body m h c t) rfl .rfl fun _ => .rfl

set_option backward.isDefEq.respectTransparency.types false in
/-- Every run of the program ends, with each array at what the region's write-backs leave and every semaphore counter
    at zero, when every camera word is below 100. -/
theorem run_main_quiescent (h : CamsOk m) : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m h c).loose) (hshare := fun c => (dats m 0 c).share_full fun _ => rfl)
    (howed := fun _ _ => rfl) (V := V m) (hmain := hmain m Variants.none) (hA := A_eq m) (hΦ := fun _ _ => rfl)

/-- The same run, of the arrays alone. -/
theorem run_main (h : CamsOk m) : θ_run defs (onTc (τ := τ) (main (F := F))) (s₀ m ρ) (Pipeline.FramePost cfgs (dats m) 0 (V m)) :=
  (θ_run defs _ _).mono (fun _ h => h.1) (run_main_quiescent m ρ h)

/-- Every run leaves the four arguments as launched and every semaphore counter at zero, when every camera word is
    below 100. -/
theorem frame (h : CamsOk m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  θ_run_and (frame_of m ρ (dats m) (A_eq m) (run_main m ρ h))
    ((θ_run defs _ _).mono (fun _ h => h.2) (run_main_quiescent m ρ h))

end Cert.KernelIdeal.Hand

end
-- ==== Proof.IdealValue.lean ====
module

public import proofs.«01_k».proof.Proof.IdealFrame

@[expose] public section

set_option maxRecDepth 16384

noncomputable section

namespace Cert.KernelIdeal.Hand

open Cert.KernelIdeal Cert.KernelIdeal.Gen
open Cert.KernelIdeal.Facts₀ Cert.KernelIdeal.Facts
open Idealize.ShloMosaic Idealize.ShloMosaic.TcCoe Idealize.ShloMosaic.Tactic
open Idealize.SL.Sem Idealize.ShloMosaic.ValueIdx
open Idealize.ShloMosaic.Pipeline (Dat Cfg Window)

variable {F : FTy → Type} [FloatOps F]
variable (m : (ℓ : Loc nD τ sig) → Buf (Elt F) ℓ) (ρ : Dev nD → PrngReg)

/-- The whole output array, over the arrays as the region finds them: each image times its camera's weight, plus
    that camera's bias, channel by channel. -/
def whole (c : Dev nD) : Vec F S32x3x512x512 .f32 := fun y =>
  FloatOps.addf (FloatOps.mulf ((V m c main_arg0 : Vec F S32x3x512x512 .f32) y)
      ((V m c main_v2 : Vec F S100x3 .f32) (ix2 (row ((V m c main_arg1 : Vec F S32 .i32) (ix1 (y 0)))) (y 1))))
    ((V m c main_v5 : Vec F S100x3 .f32) (ix2 (row ((V m c main_arg1 : Vec F S32 .i32) (ix1 (y 0)))) (y 1)))

/-- The camera window's block is the camera list. -/
theorem iblk0_apply (c : Dev nD) (t : Fin cfg0.N) (y : S32.Idx) :
    iblk m c 0 t y = (V m c main_arg1 : Vec F S32 .i32) y := by
  refine congrArg (V m c main_arg1 : Vec F S32 .i32) (funext fun a => Fin.ext ?_)
  match a with
  | ⟨0, _⟩ => exact Window.rect_emb_val_of_index_zero win0_0 t 0 rfl y

/-- The weight window's block is the weight table. -/
theorem iblk1_apply (c : Dev nD) (t : Fin cfg0.N) (y : S100x3.Idx) :
    iblk m c 1 t y = (V m c main_v2 : Vec F S100x3 .f32) y := by
  refine congrArg (V m c main_v2 : Vec F S100x3 .f32) (funext fun a => Fin.ext ?_)
  match a with
  | ⟨0, _⟩ => exact Window.rect_emb_val_of_index_zero win0_1 t 0 rfl y
  | ⟨1, _⟩ => exact Window.rect_emb_val_of_index_zero win0_1 t 1 rfl y

/-- The bias window's block is the bias table. -/
theorem iblk2_apply (c : Dev nD) (t : Fin cfg0.N) (y : S100x3.Idx) :
    iblk m c 2 t y = (V m c main_v5 : Vec F S100x3 .f32) y := by
  refine congrArg (V m c main_v5 : Vec F S100x3 .f32) (funext fun a => Fin.ext ?_)
  match a with
  | ⟨0, _⟩ => exact Window.rect_emb_val_of_index_zero win0_2 t 0 rfl y
  | ⟨1, _⟩ => exact Window.rect_emb_val_of_index_zero win0_2 t 1 rfl y

/-- The output window's block index at point `t`, axis by axis. -/
theorem index4 (t : Fin cfg0.N) : win0_4.index t 0 = (grid0.coords t 0).val ∧ win0_4.index t 1 = 0 ∧ win0_4.index t 2 = 0
    ∧ win0_4.index t 3 = 0 := by
  rcases fin_N0 t with rfl | rfl | rfl | rfl | rfl | rfl | rfl | rfl | rfl | rfl | rfl | rfl | rfl | rfl | rfl | rfl <;> decide +kernel

/-- The place in the array of an element of the output block of point `t`. -/
def place (t : Fin cfg0.N) (y : S2x3x512x512.Idx) : S32x3x512x512.Idx := (win0_4.rect t).emb y

/-- That place is in image `2 * t` plus the element's own image. -/
theorem place_img (t : Fin cfg0.N) (y : S2x3x512x512.Idx) : place t y 0 = img (grid0.coords t) (y 0) := by
  refine Fin.ext ((Window.rect_emb_val win0_4 t y 0).trans ?_)
  rw [(index4 t).1]
  show (grid0.coords t 0).val * 2 + (y 0).val = 2 * (grid0.coords t 0).val + (y 0).val
  omega

/-- And in the element's own channel. -/
theorem place_chan (t : Fin cfg0.N) (y : S2x3x512x512.Idx) : place t y 1 = y 1 :=
  Fin.ext (Window.rect_emb_val_of_index_zero win0_4 t 1 (index4 t).2.1 y)

/-- The image window's block is the image array at the same places as the output's. -/
theorem iblk3_apply (c : Dev nD) (t : Fin cfg0.N) (y : S2x3x512x512.Idx) :
    iblk m c 3 t y = (V m c main_arg0 : Vec F S32x3x512x512 .f32) (place t y) :=
  rfl

/-- The block the body leaves at point `t` is that point's block of the whole array. -/
theorem flushed_eq (c : Dev nD) (t : Fin cfg0.N) :
    (dats m 0 c).flushed 4 t = ((cfg0.win 4).blk t).view.read (Elt F) (whole m c) := by
  show (cfg0.win 4).cut (grid0.coords t) ((dats m 0 c).after 4 t) = _
  rw [after0_4]
  funext y
  show outBlk (grid0.coords t) (iblk m c 0 t) (iblk m c 1 t) (iblk m c 2 t) (iblk m c 3 t) y = whole m c (place t y)
  simp only [outBlk, whole, iblk0_apply, iblk1_apply, iblk2_apply, iblk3_apply, place_img, place_chan]

/-- An element of the output array lies in the block of point `t` exactly when its image is one of the two of `t`. -/
theorem mem_blk (t : Fin cfg0.N) (i : S32x3x512x512.Idx) :
    i ∈ ((cfg0.win 4).blk t).view.set ↔ 2 * t.val ≤ (i 0).val ∧ (i 0).val < 2 * t.val + 2 := by
  show i ∈ ((View.whole main_v6).slice (win0_4.rect t)).set ↔ _
  rw [View.set_slice_whole, Rect.mem_set_unit]
  have e : ∀ a, win0_4.index t a * win0_4.size a = ![2 * t.val, 0, 0, 0] a
      ∧ win0_4.xsize (grid0.coords t) a = ![2, 3, 512, 512] a := by
    rcases fin_N0 t with rfl | rfl | rfl | rfl | rfl | rfl | rfl | rfl | rfl | rfl | rfl | rfl | rfl | rfl | rfl | rfl <;> decide +kernel
  have h1 : (i 1).val < 3 := (i 1).isLt
  have h2 : (i 2).val < 512 := (i 2).isLt
  have h3 : (i 3).val < 512 := (i 3).isLt
  constructor
  · intro h
    have h0 : win0_4.index t 0 * win0_4.size 0 ≤ (i 0).val ∧ (i 0).val < win0_4.index t 0 * win0_4.size 0 + win0_4.xsize (grid0.coords t) 0 := h 0
    rw [(e 0).1, (e 0).2] at h0
    exact h0
  · intro h a
    show win0_4.index t a * win0_4.size a ≤ (i a).val ∧ (i a).val < win0_4.index t a * win0_4.size a + win0_4.xsize (grid0.coords t) a
    rw [(e a).1, (e a).2]
    match a with
    | ⟨0, _⟩ => exact h
    | ⟨1, _⟩ => exact ⟨Nat.zero_le _, by show (i 1).val < 0 + 3; omega⟩
    | ⟨2, _⟩ => exact ⟨Nat.zero_le _, by show (i 2).val < 0 + 512; omega⟩
    | ⟨3, _⟩ => exact ⟨Nat.zero_le _, by show (i 3).val < 0 + 512; omega⟩

/-- Every element of the output array lies in the block of some point. -/
theorem cover (i : S32x3x512x512.Idx) :
    ∃ t : Fin cfg0.N, (cfg0.win 4).flush t = true ∧ i ∈ ((cfg0.win 4).blk t).view.set := by
  have h : (i 0).val < 32 := (i 0).isLt
  have hN : cfg0.N = 16 := N_0
  refine ⟨⟨(i 0).val / 2, by omega⟩, flush0_4 _, ?_⟩
  rw [mem_blk]
  show 2 * ((i 0).val / 2) ≤ (i 0).val ∧ (i 0).val < 2 * ((i 0).val / 2) + 2
  omega

/-- The output array, once every block has been put back. -/
theorem final (c : Dev nD) : (dats m 0 c).arrAt 4 cfg0.N = whole m c :=
  (dats m 0 c).arrAt_eq_of_cover 4 (whole m c) (fun t _ => flushed_eq m c t) cover

/-- The kernel's run ends with the output array whole and the four arguments as they were. -/
theorem run_value (h : CamsOk m) :
    θ_run (Cert.KernelIdeal.defs (F := F)) (onTc main) ⟨m, fun _ => 0, ρ⟩ fun r => ∀ c : Dev nD,
      r.2.mem ((c : Thread nD τ).loc main_v6) = whole m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run Cert.KernelIdeal.defs _ _).mono (fun _ h c => ⟨((h.1 c).1 4).trans (final m c), h.2.1 c⟩)
    (θ_run_and (run_main m ρ h) (frame m ρ h))

end Cert.KernelIdeal.Hand

end
-- ==== Proof.Reference.lean ====
module

public import proofs.«01_k».proof.Proof.Gen.ReferenceIdeal.Run
public import proofs.«01_k».proof.Proof.Gen.ReferenceIdeal.Read
public import Idealize.ShloMosaic.Lib.Pipeline.Value
public import Idealize.ShloMosaic.Lib.ValueIdx
public import Idealize.ShloMosaic.Lib.ReduceAll
public import Idealize.ShloMosaic.Lib.StableHlo.Predicate

@[expose] public section

noncomputable section

namespace Cert.ReferenceIdeal.Hand

open Cert.ReferenceIdeal Cert.ReferenceIdeal.Gen Cert.ReferenceIdeal.Read
open Idealize.ShloMosaic Idealize.ShloMosaic.ValueIdx

variable {F : FTy → Type} [FloatOps F]

/-- The camera's table read at row `r`, channel `ch`: the anchor's value on row 0, the learned parameter of camera
    `r - 1` on the rows after it. -/
def tab (anchor : F .f32) (x : (⟨4, ![99, 3, 1, 1]⟩ : Shape).Idx → F .f32) (r : Fin 100) (ch : Fin 3) : F .f32 :=
  if h : r.val = 0 then anchor else x (ix4 ⟨r.val - 1, by have := r.isLt; omega⟩ ch 0 0)

/-- The reference's table, the anchor's row before the learned rows, at an index. -/
theorem concat_apply (anchor : F .f32) (u : (⟨4, ![1, 3, 1, 1]⟩ : Shape).Idx → F .f32) (hu : ∀ i, u i = anchor)
    (x : (⟨4, ![99, 3, 1, 1]⟩ : Shape).Idx → F .f32) (h) (r : Fin 100) (ch : Fin 3) :
    concatenate S100x3x1x1 0 [⟨S1x3x1x1, u⟩, ⟨S99x3x1x1, x⟩] h (ix4 r ch 0 0) = tab anchor x r ch := by
  unfold tab
  by_cases hr : r.val = 0
  · rw [dif_pos hr]
    refine (concatenate_pair_apply_left 0 u x h _ rfl (ix4 0 ch 0 0) fun b => ?_).trans (hu _)
    match b with
    | ⟨0, _⟩ => exact hr.symm
    | ⟨1, _⟩ => rfl
    | ⟨2, _⟩ => rfl
    | ⟨3, _⟩ => rfl
  · rw [dif_neg hr]
    refine concatenate_pair_apply_right 0 u x h _ rfl rfl _ (fun b hb => ?_) ?_
    · match b with
      | ⟨0, _⟩ => exact absurd rfl hb
      | ⟨1, _⟩ => rfl
      | ⟨2, _⟩ => rfl
      | ⟨3, _⟩ => rfl
    · show r.val - 1 + 1 = r.val
      omega

/-- The gather of rows: result row `b` is the table's row named by the start index of `b`, when that is below 100. -/
theorem gather_apply {α : Type} (x : S100x3x1x1.Idx → α) (idx : IVec S32x1 32) (b : Fin 32) (ch : Fin 3) (r : Fin 100)
    (hr : idx (ix2 b 0) = BitVec.ofNat 32 r.val) :
    Host.gather gather_S100x3x1x1_S32x1_S32x3x1x1_123_0_n_n_0_1_1311 x idx (ix4 b ch 0 0) = x (ix4 r ch 0 0) := by
  have hl := r.isLt
  unfold Host.gather
  refine congrArg x (funext fun a => Fin.ext ?_)
  match a with
  | ⟨0, _⟩ =>
    have e : (gather_S100x3x1x1_S32x1_S32x3x1x1_123_0_n_n_0_1_1311.siIdx (ix4 b ch 0 0) ⟨0, by decide⟩) = ix2 b 0 := by
      funext k; match k with
      | ⟨0, _⟩ => rfl
      | ⟨1, _⟩ => rfl
    show min (idx (gather_S100x3x1x1_S32x1_S32x3x1x1_123_0_n_n_0_1_1311.siIdx (ix4 b ch 0 0) ⟨0, by decide⟩)).toInt.toNat (100 - 1) + 0 + 0 = r.val
    rw [e, hr, StableHlo.Predicate.toInt_ofNat_small _ (by omega)]
    omega
  | ⟨1, _⟩ => show 0 + 0 + ch.val = ch.val; omega
  | ⟨2, _⟩ => rfl
  | ⟨3, _⟩ => rfl

/-- A camera word below 100, as the signed comparisons see it: not negative, at least 0, at most 99. -/
theorem word_cmp {v : BitVec 32} (h : v.toNat < 100) :
    IntOp.cmpi .slt v 0#32 = 0#1 ∧ IntOp.cmpi .sge v 0#32 = 1#1 ∧ IntOp.cmpi .sle v 99#32 = 1#1 := by
  have e : v.toInt = v.toNat := by rw [BitVec.toInt_eq_toNat_of_lt]; omega
  have e0 : (0#32).toInt = 0 := by decide
  have e99 : (99#32).toInt = 99 := by decide
  simp only [IntOp.cmpi, BitVec.slt, BitVec.sle, e, e0, e99]
  refine ⟨?_, ?_, ?_⟩
  · rw [decide_eq_false (by omega)]; rfl
  · rw [decide_eq_true (by omega)]; rfl
  · rw [decide_eq_true (by omega)]; rfl

variable (x1 : (⟨S32, .i32⟩ : BufTy).Contents (Elt F)) (hx : ∀ y : S32.Idx, BitVec.toNat (w := 32) (x1 y) < 100)

include hx

/-- The weights' start indices: the wrap of negative words leaves a camera word as it is. -/
theorem start0_apply (i : S32x1.Idx) : val_main_call0_v5 (F := F) x1 i = x1 (idx_main_call0_v5 i) := by
  rw [val_main_call0_v5_apply, val_main_call0_v4_apply, val_main_call0_v1_apply,
    val_main_call0_v0_apply, val_main_call0_c_apply]
  exact congrArg (fun w => Scalar.select w _ _) (word_cmp (hx _)).1

/-- The biases' start indices, likewise. -/
theorem start1_apply (i : S32x1.Idx) : val_main_call1_v5 (F := F) x1 i = x1 (idx_main_call1_v5 i) := by
  rw [val_main_call1_v5_apply, val_main_call1_v4_apply, val_main_call1_v1_apply,
    val_main_call1_v0_apply, val_main_call1_c_apply]
  exact congrArg (fun w => Scalar.select w _ _) (word_cmp (hx _)).1

/-- Every start index of the weights is in range: the mask of the take is set everywhere. -/
theorem mask0_apply (i : S32.Idx) : val_main_call0_v12 (F := F) x1 i = 1#1 := by
  unfold val_main_call0_v12
  refine Host.reduce_andi_one _ _ _ _ _ rfl fun j => ?_
  rw [val_main_call0_v11_apply, val_main_call0_v7_apply, val_main_call0_v10_apply, start0_apply x1 hx, val_main_call0_v6_apply,
    val_main_call0_v9_apply, val_main_call0_v8_apply, val_main_call0_c_1_apply, val_main_call0_c_2_apply,
    (word_cmp (hx _)).2.1, (word_cmp (hx _)).2.2]
  rfl

/-- Every start index of the biases is in range, likewise. -/
theorem mask1_apply (i : S32.Idx) : val_main_call1_v12 (F := F) x1 i = 1#1 := by
  unfold val_main_call1_v12
  refine Host.reduce_andi_one _ _ _ _ _ rfl fun j => ?_
  rw [val_main_call1_v11_apply, val_main_call1_v7_apply, val_main_call1_v10_apply, start1_apply x1 hx, val_main_call1_v6_apply,
    val_main_call1_v9_apply, val_main_call1_v8_apply, val_main_call1_c_1_apply, val_main_call1_c_2_apply,
    (word_cmp (hx _)).2.1, (word_cmp (hx _)).2.2]
  rfl

/-- The weight the reference takes for image `b`, channel `ch`. -/
theorem weight_apply (x2 : (⟨S99x3x1x1, .f32⟩ : BufTy).Contents (Elt F)) (b : Fin 32) (ch : Fin 3) :
    val_main_v4 (F := F) x1 x2 (ix4 b ch 0 0)
      = tab (FloatOps.ofBits .f32 0x3F800000#32) x2 ⟨BitVec.toNat (w := 32) (x1 (ix1 b)) % 100, Nat.mod_lt _ (by decide)⟩ ch := by
  rw [val_main_v4_apply, val_main_call0_v14_apply, mask0_apply x1 hx]
  show val_main_call0_v13 (F := F) x1 x2 (ix4 b ch 0 0) = _
  unfold val_main_call0_v13
  rw [gather_apply _ _ b ch ⟨BitVec.toNat (w := 32) (x1 (ix1 b)) % 100, Nat.mod_lt _ (by decide)⟩ ?_]
  · unfold val_main_v2
    exact concat_apply _ _ (fun i => (val_main_v0_apply i).trans (val_main_cst_apply _)) x2 _ _ ch
  · have e : idx_main_call0_v5 (ix2 b 0) = ix1 b := funext fun a => match a with | ⟨0, _⟩ => rfl
    refine (start0_apply x1 hx _).trans ?_
    rw [e]
    show x1 (ix1 b) = BitVec.ofNat 32 (BitVec.toNat (w := 32) (x1 (ix1 b)) % 100)
    rw [Nat.mod_eq_of_lt (hx (ix1 b)), BitVec.ofNat_toNat, BitVec.setWidth_eq]

/-- The bias the reference takes for image `b`, channel `ch`. -/
theorem bias_apply (x3 : (⟨S99x3x1x1, .f32⟩ : BufTy).Contents (Elt F)) (b : Fin 32) (ch : Fin 3) :
    val_main_v5 (F := F) x1 x3 (ix4 b ch 0 0)
      = tab (FloatOps.ofBits .f32 0x00000000#32) x3 ⟨BitVec.toNat (w := 32) (x1 (ix1 b)) % 100, Nat.mod_lt _ (by decide)⟩ ch := by
  rw [val_main_v5_apply, val_main_call1_v14_apply, mask1_apply x1 hx]
  show val_main_call1_v13 (F := F) x1 x3 (ix4 b ch 0 0) = _
  unfold val_main_call1_v13
  rw [gather_apply _ _ b ch ⟨BitVec.toNat (w := 32) (x1 (ix1 b)) % 100, Nat.mod_lt _ (by decide)⟩ ?_]
  · unfold val_main_v3
    exact concat_apply _ _ (fun i => (val_main_v1_apply i).trans (val_main_cst_0_apply _)) x3 _ _ ch
  · have e : idx_main_call1_v5 (ix2 b 0) = ix1 b := funext fun a => match a with | ⟨0, _⟩ => rfl
    refine (start1_apply x1 hx _).trans ?_
    rw [e]
    show x1 (ix1 b) = BitVec.ofNat 32 (BitVec.toNat (w := 32) (x1 (ix1 b)) % 100)
    rw [Nat.mod_eq_of_lt (hx (ix1 b)), BitVec.ofNat_toNat, BitVec.setWidth_eq]

/-- What the reference computes at an index: the texture times its image's camera's weight, plus that camera's bias. -/
theorem result_apply (x0 : (⟨S32x3x512x512, .f32⟩ : BufTy).Contents (Elt F)) (x2 x3 : (⟨S99x3x1x1, .f32⟩ : BufTy).Contents (Elt F))
    (i : S32x3x512x512.Idx) :
    val_main_v9 (F := F) x0 x1 x2 x3 i
      = FloatOps.addf (FloatOps.mulf (x0 i)
          (tab (FloatOps.ofBits .f32 0x3F800000#32) x2 ⟨BitVec.toNat (w := 32) (x1 (ix1 (i 0))) % 100, Nat.mod_lt _ (by decide)⟩ (i 1)))
          (tab (FloatOps.ofBits .f32 0x00000000#32) x3 ⟨BitVec.toNat (w := 32) (x1 (ix1 (i 0))) % 100, Nat.mod_lt _ (by decide)⟩ (i 1)) := by
  have e : idx_main_v6 i = ix4 (n0 := 32) (n1 := 3) (n2 := 1) (n3 := 1) (i 0) (i 1) 0 0 := funext fun a =>
    match a with | ⟨0, _⟩ => rfl | ⟨1, _⟩ => rfl | ⟨2, _⟩ => rfl | ⟨3, _⟩ => rfl
  have e' : idx_main_v8 i = ix4 (n0 := 32) (n1 := 3) (n2 := 1) (n3 := 1) (i 0) (i 1) 0 0 := funext fun a =>
    match a with | ⟨0, _⟩ => rfl | ⟨1, _⟩ => rfl | ⟨2, _⟩ => rfl | ⟨3, _⟩ => rfl
  have hw := ((val_main_v6_apply (F := F) x1 x2 i).trans (congrArg (val_main_v4 (F := F) x1 x2) e)).trans
    (weight_apply x1 hx x2 (i 0) (i 1))
  have hb := ((val_main_v8_apply (F := F) x1 x3 i).trans (congrArg (val_main_v5 (F := F) x1 x3) e')).trans
    (bias_apply x1 hx x3 (i 0) (i 1))
  rw [val_main_v9_apply, val_main_v7_apply]
  exact congrArg₂ FloatOps.addf (congrArg (FloatOps.mulf (x0 i)) hw) hb

end Cert.ReferenceIdeal.Hand

end
-- ==== Proof.Equation.lean ====
module

public import proofs.«01_k».proof.Proof.IdealValue
public import proofs.«01_k».proof.Proof.Reference
public import Idealize.ShloMosaic.Lib.Claim

@[expose] public section

set_option maxRecDepth 16384

noncomputable section

namespace Cert.KernelIdeal.Hand

open Cert.KernelIdeal Cert.KernelIdeal.Gen
open Cert.KernelIdeal.Facts₀ Cert.KernelIdeal.Facts
open Idealize.ShloMosaic Idealize.ShloMosaic.TcCoe
open Idealize.SL.Sem Idealize.ShloMosaic.ValueIdx
open Cert.ReferenceIdeal.Hand (tab)

variable {F : FTy → Type} [FloatOps F]
variable (m : (ℓ : Loc nD τ sig) → Buf (Elt F) ℓ) (ρ : Dev nD → PrngReg)

/-- The kernel's flattened table, the anchor's row before the learned rows, is the same table as the reference's. -/
theorem table_apply (anchor : F .f32) (u : S1x3.Idx → F .f32) (hu : ∀ i, u i = anchor) (x : S99x3x1x1.Idx → F .f32)
    (hc : S99x3x1x1.ShapeCasts S99x3) (h) (r : Fin 100) (ch : Fin 3) :
    concatenate S100x3 0 [⟨S1x3, u⟩, ⟨S99x3, shapeCast S99x3 x hc⟩] h (ix2 r ch) = tab anchor x r ch := by
  unfold tab
  by_cases hr : r.val = 0
  · rw [dif_pos hr]
    refine (concatenate_pair_apply_left 0 u _ h _ rfl (ix2 0 ch) fun b => ?_).trans (hu _)
    match b with
    | ⟨0, _⟩ => exact hr.symm
    | ⟨1, _⟩ => rfl
  · rw [dif_neg hr]
    have hl := r.isLt
    refine (concatenate_pair_apply_right 0 u _ h _ rfl rfl (ix2 (n0 := 99) (n1 := 3) ⟨r.val - 1, by omega⟩ ch) (fun b hb => ?_) ?_).trans
      (shapeCast_apply x hc _ _ ?_)
    · match b with
      | ⟨0, _⟩ => exact absurd rfl hb
      | ⟨1, _⟩ => rfl
    · show r.val - 1 + 1 = r.val
      omega
    · rw [Shape.rowMajor_val_four, Shape.rowMajor_val_two]
      show ((((r.val - 1) * 3 + ch.val) * 1 + 0) * 1 + 0) = (r.val - 1) * 3 + ch.val
      omega

/-- The weight table the region is entered with. -/
theorem weights_apply (c : Dev nD) (r : Fin 100) (ch : Fin 3) : (V m c main_v2 : Vec F S100x3 .f32) (ix2 r ch)
    = tab (FloatOps.ofBits .f32 0x3F800000#32) (m ((c : Thread nD τ).loc main_arg2)) r ch := by
  entry_read
  exact table_apply _ _ (fun _ => rfl) _ _ _ r ch

/-- The bias table the region is entered with. -/
theorem biases_apply (c : Dev nD) (r : Fin 100) (ch : Fin 3) : (V m c main_v5 : Vec F S100x3 .f32) (ix2 r ch)
    = tab (FloatOps.ofBits .f32 0x00000000#32) (m ((c : Thread nD τ).loc main_arg3)) r ch := by
  entry_read
  exact table_apply _ _ (fun _ => rfl) _ _ _ r ch

/-- The equation: the array the kernel leaves is the reference's value of the kernel's arguments, when every camera word
    is below 100. -/
theorem whole_eq (h : CamsOk m) (c : Dev nD) : whole m c
    = Cert.ReferenceIdeal.Read.val_main_v9 (F := F) (m ((c : Thread nD τ).loc main_arg0)) (m ((c : Thread nD τ).loc main_arg1))
        (m ((c : Thread nD τ).loc main_arg2)) (m ((c : Thread nD τ).loc main_arg3)) := by
  funext y
  refine Eq.trans ?_ (Cert.ReferenceIdeal.Hand.result_apply (m ((c : Thread nD τ).loc main_arg1)) (h c)
    (m ((c : Thread nD τ).loc main_arg0)) (m ((c : Thread nD τ).loc main_arg2)) (m ((c : Thread nD τ).loc main_arg3)) y).symm
  have e : row ((V m c main_arg1 : Vec F S32 .i32) (ix1 (n := 32) (y 0)))
      = row ((m ((c : Thread nD τ).loc main_arg1) : Vec F S32 .i32) (ix1 (n := 32) (y 0))) :=
    congrArg row (congrFun (V_main_arg1 m c) _)
  exact congrArg₂ FloatOps.addf
    (congrArg₂ FloatOps.mulf (congrFun (V_main_arg0 m c) y)
      ((weights_apply m c _ (y 1)).trans (congrArg (fun r => tab _ _ r (y 1)) e)))
    ((biases_apply m c _ (y 1)).trans (congrArg (fun r => tab _ _ r (y 1)) e))

end Cert.KernelIdeal.Hand

end
-- ==== Proof.lean ====
/- `Proof.KernelFrame` and `Proof.IdealFrame` run the kernel, `Proof.Equation` equates what it leaves with the
   reference's value. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_cam_names_cameras
public import proofs.«01_k».proof.Proof.KernelFrame
public import proofs.«01_k».proof.Proof.IdealFrame
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem

/-- A camera word of which the precondition holds is below 100. -/
theorem word_lt {v : BitVec 32} (h : IntOp.andi (IntOp.cmpi .sge v 0#32) (IntOp.cmpi .slt v 100#32) = 1#1) : v.toNat < 100 := by
  have both : ∀ a b : Bool, IntOp.andi (BitVec.ofBool a) (BitVec.ofBool b) = 1#1 → a = true ∧ b = true := by decide
  replace h := both _ _ h
  simp only [BitVec.sle, BitVec.slt, decide_eq_true_eq, BitVec.toInt, BitVec.toNat_ofNat] at h
  omega

/-- The precondition at an instance says that every camera word is below 100. -/
theorem cams_lt {F : FTy → Type} [FloatOps F] [Cert.Pre_cam_names_cameras.Facts]
    (x0 : FVec F Cert.Pre_cam_names_cameras.S32x3x512x512 .f32) (x1 : IVec Cert.Pre_cam_names_cameras.S32 32)
    (x2 x3 : FVec F Cert.Pre_cam_names_cameras.S99x3x1x1 .f32)
    (h : Cert.Pre_cam_names_cameras.fn (F := F) x0 x1 x2 x3 = fun _ => 1#1) (y : Cert.Pre_cam_names_cameras.S32.Idx) :
    (x1 y).toNat < 100 :=
  word_lt (congrFun h y)

/-- `Kernel`'s frame. -/
theorem kernel_frame : Cert.quiescent_Kernel :=
  fun m g h => Cert.Kernel.Hand.frame m g fun c => cams_lt _ _ _ _ (h c)

/-- `KernelIdeal`'s frame. -/
theorem ideal_frame : Cert.quiescent_KernelIdeal :=
  fun m g h => Cert.KernelIdeal.Hand.frame m g fun c => cams_lt _ _ _ _ (h c)

/-- `ReferenceIdeal`'s run, at any memory: the arguments end unchanged and every semaphore counter reads zero. -/
theorem reference_frame : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run m g)

/-- The kernel and the reference, from memories agreeing on the arguments, end with equal results. -/
theorem value : Cert.algebraic_KernelIdeal_ReferenceIdeal := fun m g m' g' h e => by
  have hc : Cert.KernelIdeal.Hand.CamsOk m := fun c => cams_lt _ _ _ _ (h c)
  refine ⟨fun c => Cert.KernelIdeal.Hand.whole m c, Cert.KernelIdeal.Hand.run_value m g hc, ?_⟩
  refine (θ_run Cert.ReferenceIdeal.defs _ _).mono (fun r h c => ⟨?_, (h c).2⟩) (Cert.ReferenceIdeal.Value.run m' g')
  refine ((h c).1.trans (Cert.ReferenceIdeal.Read.val_main_v9_eq _ _ _ _)).trans ?_
  rw [(e c).1, (e c).2.1, (e c).2.2.1, (e c).2.2.2]
  exact (Cert.KernelIdeal.Hand.whole_eq m hc c).symm

/-- Every claim of the certificate. -/
theorem claim : Cert.Claim :=
  ⟨Cert.Kernel.Gen.facts, Cert.KernelIdeal.Gen.facts, Cert.ReferenceIdeal.Gen.facts, Cert.Pre_cam_names_cameras.Gen.facts,
    kernel_frame, ideal_frame, reference_frame, fun m g _ => reference_frame m g trivial, trivial, value⟩

end Cert.Proof

end
